-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v4)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v4) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S_ : Shape := ⟨0, ![]⟩

abbrev nBuf : Space → Nat
  | .hbm => 8
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .i32⟩
  | .hbm, ⟨4, _⟩ => ⟨S_, .i32⟩
  | .hbm, ⟨5, _⟩ => ⟨S8192x4096, .i32⟩
  | .hbm, ⟨6, _⟩ => ⟨S8192x4096, .i1⟩
  | .hbm, ⟨7, _⟩ => ⟨S8192x4096, .i1⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .i32⟩
  | .local _ .vmem, ⟨4, _⟩ => ⟨S512x4096, .i32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference.lean ====
abbrev S8192x4096 : Shape := ⟨2, ![8192, 4096]⟩
abbrev S4096 : Shape := ⟨1, ![4096]⟩
abbrev S_ : Shape := ⟨0, ![]⟩
abbrev S1x4096 : Shape := ⟨2, ![1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S_, .f32⟩
  | .hbm, ⟨3, _⟩ => ⟨S4096, .f32⟩
  | .hbm, ⟨4, _⟩ => ⟨S4096, .i1⟩
  | .hbm, ⟨5, _⟩ => ⟨S1x4096, .f32⟩
  | .hbm, ⟨6, _⟩ => ⟨S8192x4096, .f32⟩
  | .hbm, ⟨7, _⟩ => ⟨S8192x4096, .i1⟩
  | .hbm, ⟨8, _⟩ => ⟨S1x4096, .i1⟩
  | .hbm, ⟨9, _⟩ => ⟨S8192x4096, .i1⟩
  | .hbm, ⟨10, _⟩ => ⟨S8192x4096, .i1⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Hit.lean ====
/-
  The mathematics of the threshold test, over any float values: one element's answer (`hit`), the mask over the
  [8192, 4096] array (`mask`), and the fact that the reference's composed term is that mask (`reference_eq_mask`).
-/
module

public import proofs.«01_k».proof.Proof.Gen.ReferenceIdeal.Run
public import Idealize.ShloMosaic.Lib.PointwiseCore

@[expose] public section

noncomputable section

namespace Cert.Threshold

open Idealize.ShloMosaic

variable {F : FTy → Type} [FloatOps F]

/-- One element's answer, as a bit: the feature's median is positive and the input is at least the median. -/
def hit (x med : F .f32) : BitVec 1 :=
  IntOp.andi (FloatOps.cmpf .ogt med (FloatOps.ofBits .f32 0x00000000#32)) (FloatOps.cmpf .oge x med)

/-- The answers for a whole array of inputs: element (b, f) is tested against feature f's median. -/
def mask (X : Vec F ⟨2, ![8192, 4096]⟩ .f32) (M : Vec F ⟨1, ![4096]⟩ .f32) : Vec F ⟨2, ![8192, 4096]⟩ .i1 :=
  fun i => hit (X i) (M (ix1 (i 1)))

/-- An answer stored as a 32-bit word and compared with zero is the answer again. -/
theorem ne_zero_of_widened (b : BitVec 1) : IntOp.cmpi .ne (b.setWidth 32) 0#32 = b := by
  revert b; decide

open Cert.ReferenceIdeal Cert.ReferenceIdeal.Gen in
/-- What the reference's operations compose to is the mask: each broadcast is read at the index, and what is left is
    the same pair of comparisons. -/
theorem reference_eq_mask (X : Vec F S8192x4096 .f32) (M : Vec F S4096 .f32) :
    andi (broadcastInDim S8192x4096 ![0, 1] bcast_S1x4096_S8192x4096_0_1
        (broadcastInDim S1x4096 ![1] bcast_S4096_S1x4096_1
          (cmpf .ogt M (broadcastInDim S4096 ![] bcast_S_S4096 (constant S_ .f32 0x00000000#32)))))
      (cmpf .oge X (broadcastInDim S8192x4096 ![0, 1] bcast_S1x4096_S8192x4096_0_1
        (broadcastInDim S1x4096 ![1] bcast_S4096_S1x4096_1 M)))
    = mask X M := by
  funext i
  obtain ⟨r, l, rfl⟩ : ∃ (r : Fin 8192) (l : Fin 4096), i = ix2 r l := ⟨i 0, i 1, eq_ix2 i⟩
  pointwise [mask, hit]

end Cert.Threshold

end
-- ==== Proof.KernelArray.lean ====
/-
  What the kernel computes, over any float values. A grid point writes back its 512 rows of one whole array of words
  (`flushed_eq`); the sixteen row blocks fill the array (`cover`); so the array that the region leaves holds those words
  (`final_words`), and the host's comparison with zero after it turns them into the mask (`run`).
-/
module

public import proofs.«01_k».proof.Proof.Hit
public import proofs.«01_k».proof.Proof.Gen.KernelIdeal.Frame
public import Idealize.ShloMosaic.Lib.Pipeline.Value
public import Idealize.ShloMosaic.Lib.Claim

@[expose] public section

noncomputable section

namespace Cert.Threshold

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The mask with each bit widened to a 32-bit word: what the region's result array holds in the end. -/
def words (X : Vec F S8192x4096 .f32) (M : Vec F S4096 .f32) : Vec F S8192x4096 .i32 :=
  fun i => (mask X M i).setWidth 32

/-- Element (r, l) of what the body stores: the answer for the input block's element against the median of column l. -/
theorem payload_apply (med : Vec F S1x4096 .f32) (x : Vec F S512x4096 .f32) (r : Fin 512) (l : Fin 4096) :
    k0_pay1 med x (ix2 r l) = (hit (x (ix2 r l)) (med (ix2 0 l))).setWidth 32 := by
  pointwise [k0_pay1, hit]

/-- A vector reshaped to one row, read at column l, is the vector at l. -/
theorem row_apply (M : Vec F S4096 .f32) (l : Fin 4096) :
    shapeCast S1x4096 M shapeCasts_S4096_S1x4096 (ix2 0 l) = M (ix1 l) := by
  pointwise

/-- The single-row array of medians that the region reads is the argument, column by column. -/
theorem medians_entry (c : Dev nD) (l : Fin 4096) :
    V m c main_v0 (ix2 0 l) = m ((c : Thread nD τ).loc main_arg1) (ix1 l) := by
  have h : V m c main_v0 = shapeCast S1x4096 (m ((c : Thread nD τ).loc main_arg1)) shapeCasts_S4096_S1x4096 := by
    unfold V V0 hostOps0
    rw [List.flatten_singleton]
    after_results
    rfl
  rw [h]
  exact row_apply _ l

/-- At grid point t the input window and the result window are at row block t and column block 0, and the window of the
    medians is at the one block there is. -/
theorem block_index (t : Fin cfg0.N) :
    (win0_0.index t 0 = t.val ∧ win0_0.index t 1 = 0) ∧ (win0_1.index t 0 = 0 ∧ win0_1.index t 1 = 0)
      ∧ (win0_2.index t 0 = t.val ∧ win0_2.index t 1 = 0) := by
  revert t; decide +kernel

/-- The offsets of a rectangle that starts at the first element. -/
theorem zero_offset : (![0, 0] : Fin 2 → Nat) = fun _ => 0 := funext fun a => by fin_cases a <;> rfl

/-- The input block at point t, read at an index, is the argument at the result block's element of that index. -/
theorem input_elt (c : Dev nD) (t : Fin cfg0.N) (r : Fin 512) (l : Fin 4096) :
    iblk m c 0 t (ix2 r l) = m ((c : Thread nD τ).loc main_arg0) ((win0_2.rect t).emb (ix2 r l)) := by
  show V m c main_arg0 ((win0_0.rect t).emb (ix2 r l)) = _
  rw [V_main_arg0]
  rfl

/-- The block of medians at point t, read at column l, is the argument at l. -/
theorem median_elt (c : Dev nD) (t : Fin cfg0.N) (l : Fin 4096) :
    iblk m c 1 t (ix2 0 l) = m ((c : Thread nD τ).loc main_arg1) (ix1 l) := by
  rw [← medians_entry m c l]
  show V m c main_v0 ((win0_1.rect t).emb (ix2 0 l)) = _
  refine congrArg (V m c main_v0) (Shape.idx_ext₂ ?_ ?_)
  · exact win0_1.rect_emb_val_of_index_zero t 0 (block_index t).2.1.1 _
  · exact win0_1.rect_emb_val_of_index_zero t 1 (block_index t).2.1.2 _

/-- What point t writes back is block t of the words of the two arguments. -/
theorem flushed_eq (c : Dev nD) (t : Fin cfg0.N) :
    (dats m 0 c).flushed 2 t = (win0_2.blk t).view.read (Elt F)
      (words (m ((c : Thread nD τ).loc main_arg0)) (m ((c : Thread nD τ).loc main_arg1))) := by
  show (cfg0.win 2).cut (grid0.coords t) ((dats m 0 c).after 2 t) = _
  rw [after0_2]
  unfold out0_2
  rw [View.canon_unit_zero zero_offset, View.ld_unit_zero zero_offset, View.ld_unit_zero zero_offset]
  funext y
  obtain ⟨r, l, rfl⟩ : ∃ (r : Fin 512) (l : Fin 4096), y = ix2 r l := ⟨y 0, y 1, eq_ix2 (n0 := 512) (n1 := 4096) y⟩
  refine (payload_apply _ _ r l).trans ?_
  rw [input_elt, median_elt]
  show _ = words _ _ ((win0_2.rect t).emb (ix2 r l))
  have e : ix1 (n0 := 4096) (((win0_2.rect t).emb (ix2 r l)) 1) = ix1 l :=
    congrArg ix1 (Fin.ext (win0_2.rect_emb_val_of_index_zero t 1 (block_index t).2.2.2 _))
  exact congrArg (fun j => (hit (m ((c : Thread nD τ).loc main_arg0) ((win0_2.rect t).emb (ix2 r l)))
    (m ((c : Thread nD τ).loc main_arg1) j)).setWidth 32) e.symm

/-- Every element of the result array is in the block that some point writes back: row b in that of point b / 512. -/
theorem cover (i : S8192x4096.Idx) :
    ∃ t : Fin cfg0.N, (cfg0.win 2).flush t = true ∧ i ∈ ((cfg0.win 2).blk t).view.set := by
  have h0 : (i 0 : Nat) < 8192 := (i 0).isLt
  have h1 : (i 1 : Nat) < 4096 := (i 1).isLt
  have hN : cfg0.N = 16 := N_0
  refine ⟨⟨(i 0 : Nat) / 512, by omega⟩, flush0_2 _, ?_⟩
  generalize ht : (⟨(i 0 : Nat) / 512, _⟩ : Fin cfg0.N) = t
  have hv : t.val = (i 0 : Nat) / 512 := by rw [← ht]
  show i ∈ ((View.whole main_v1).slice (win0_2.rect t)).set
  rw [View.set_slice_whole]
  refine Finset.mem_coe.mp ((Rect.mem_set_unit ..).mpr fun a => ?_)
  obtain ⟨d, e⟩ := (block_index t).2.2
  match a with
  | ⟨0, _⟩ =>
    show win0_2.index t 0 * 512 ≤ (i 0 : Nat) ∧ (i 0 : Nat) < win0_2.index t 0 * 512 + 512
    omega
  | ⟨1, _⟩ =>
    show win0_2.index t 1 * 4096 ≤ (i 1 : Nat) ∧ (i 1 : Nat) < win0_2.index t 1 * 4096 + 4096
    omega

/-- The region leaves the words of the two arguments in its result array. -/
theorem final_words (c : Dev nD) : (dats m 0 c).arrAt 2 cfg0.N
    = words (m ((c : Thread nD τ).loc main_arg0)) (m ((c : Thread nD τ).loc main_arg1)) :=
  (dats m 0 c).arrAt_eq_of_cover 2 _ (fun t _ => flushed_eq m c t) cover

/-- The host lines after the region compare the words with zero: the program's result is the mask. -/
theorem result_eq (c : Dev nD) :
    Pipeline.afterTail₀ cfgs (dats m) 0 (V0 m) [hostOps1] c main_v4
      = mask (m ((c : Thread nD τ).loc main_arg0)) (m ((c : Thread nD τ).loc main_arg1)) := by
  have h : Pipeline.withArrays spec0 c (V0 m c) (fun w => (dats m 0 c).arrAt w cfg0.N) (Proc.devRef .tc main_v1)
      = words (m ((c : Thread nD τ).loc main_arg0)) (m ((c : Thread nD τ).loc main_arg1)) :=
    (Pipeline.withArrays_arr spec0 launch0.win.arr_inj c (V0 m c) _ 2).trans (final_words m c)
  unfold Pipeline.afterTail₀ hostOps1
  rw [List.flatten_singleton]
  after_results
  rw [h]
  funext i
  exact ne_zero_of_widened _

/-- The kernel's run: it ends with the mask as its result and its arguments as they were. -/
theorem run : θ_run defs (onTc (τ := τ) (main (F := F))) ⟨m, fun _ => 0, ρ⟩ fun r => ∀ c : Dev nD,
      r.2.mem ((c : Thread nD τ).loc main_v4)
        = mask (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  run_from run_main m ρ
  · exact result_eq m c
  · exact W_main_arg1 m (dats m) c

end Cert.Threshold

end
-- ==== Proof.Printed.lean ====
/-
  The kernel as printed for machine words and the kernel as printed for the extended reals are one text, since no rewriting
  rule was applied. Here the two are shown to be the same program (`table_eq`), so that the run proved of the second, over
  any float values, is the run of the first (`printed_run`).
-/
module

public import proofs.«01_k».proof.Proof.Gen.Kernel.Frame
public import proofs.«01_k».proof.Proof.KernelArray

@[expose] public section

noncomputable section

namespace Cert.Threshold

open Idealize.ShloMosaic Idealize.ShloMosaic.TcCoe Idealize.SL.Sem

variable {F : FTy → Type} [FloatOps F]

/-- The two body tables are equal: each has one row, and the two rows are one text. -/
theorem body_table_eq : Cert.Kernel.defs₀ (F := F) = Cert.KernelIdeal.defs₀ (F := F) := by
  unfold Cert.Kernel.defs₀ Cert.KernelIdeal.defs₀
  refine congrArg (Defs.onTc (Λ := Cert.Kernel.Λ₀)) (funext fun ℓ => funext fun x => ?_)
  match ℓ, x with
  | ⟨0, _⟩, (t, s) => rfl

/-- So the two tables with their pipelines are equal. -/
theorem table_eq : Cert.Kernel.defs (F := F) = Cert.KernelIdeal.defs (F := F) :=
  congrArg (Pipeline.defs Cert.Kernel.pcfgs) body_table_eq

open Cert.Kernel in
/-- The printed kernel's run: it ends with the mask as its result and its arguments as they were. -/
theorem printed_run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c : Thread nD τ).loc main_v4)
        = mask (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  rw [table_eq]
  exact Cert.Threshold.run (F := F) m ρ

end Cert.Threshold

end
-- ==== Proof.lean ====
/-
  The certificate of the threshold kernel, whole: the frames of the kernel, of the reference and of their idealizations;
  that the idealization changed nothing; that over the extended reals kernel and reference compute one function; and that
  over machine words they end with the same bits.
  The values are the work of Proof/KernelArray.lean (the kernel's result is the mask of Proof/Hit.lean) and of
  Proof/Hit.lean (so is the reference's); Proof/Printed.lean carries the kernel's over to machine words.
-/
module

public import proofs.«01_k».proof.Defs
public import proofs.«01_k».proof.Proof.Gen.Kernel.Frame
public import proofs.«01_k».proof.Proof.Gen.KernelIdeal.Frame
public import proofs.«01_k».proof.Proof.Gen.Reference.Run
public import proofs.«01_k».proof.Proof.Gen.ReferenceIdeal.Run
public import proofs.«01_k».proof.Proof.Hit
public import proofs.«01_k».proof.Proof.KernelArray
public import proofs.«01_k».proof.Proof.Printed
public import Idealize.ShloMosaic.Lib.Claim
public import Idealize.ShloMosaic.Lib.Quiescent

@[expose] public section

noncomputable section

namespace Cert.Proof

open Idealize.ShloMosaic Idealize.SL.Sem

/-- The reference's frame: its run leaves the arguments alone, and it has no semaphore. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals both programs end with the mask of the arguments. -/
theorem algebraic : Cert.algebraic_KernelIdeal_ReferenceIdeal := by
  intro m ρ m' ρ' _ hagree
  refine ⟨_, Cert.Threshold.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.Threshold.reference_eq_mask _ _).trans ?_
  rw [(hagree c).1, (hagree c).2]

/-- The frame of the reference over machine words, likewise. -/
theorem reference_frame_words : Cert.quiescent_Reference := fun m ρ _ =>
  (θ_run Cert.Reference.defs _ _).mono
    (fun r h => ⟨fun c => (h c).2, sem_eq_zero_of_no_sems (by decide) r.2⟩)
    (Cert.Reference.Value.run (F := Bits) m ρ)

/-- Over machine words too both programs end with the mask of the arguments: the same bits, for every word of the inputs. -/
theorem bitexact : Cert.bitexact_Kernel_Reference := by
  intro m ρ m' ρ' _ hagree
  refine ⟨_, Cert.Threshold.printed_run (F := Bits) m ρ, ?_⟩
  refine (θ_run Cert.Reference.defs _ _).mono (fun _ h c => ⟨(h c).1.trans ?_, (h c).2⟩)
    (Cert.Reference.Value.run (F := Bits) m' ρ')
  refine (Cert.Threshold.reference_eq_mask _ _).trans ?_
  rw [(hagree c).1, (hagree c).2]

theorem claim : Cert.Claim :=
  ⟨Cert.Kernel.Gen.facts, Cert.KernelIdeal.Gen.facts, Cert.Reference.Gen.facts, Cert.ReferenceIdeal.Gen.facts,
    fun m ρ _ => Cert.Kernel.Gen.frame m ρ, fun m ρ _ => Cert.KernelIdeal.Gen.frame m ρ,
    reference_frame_words, reference_frame, trivial, algebraic, bitexact⟩

end Cert.Proof

end
